-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S8x4096 : Shape := ⟨2, ![8, 4096]⟩
abbrev S16x2x4x4096 : Shape := ⟨4, ![16, 2, 4, 4096]⟩
abbrev S_ : Shape := ⟨0, ![]⟩
abbrev S1x1x4x4096 : Shape := ⟨4, ![1, 1, 4, 4096]⟩
abbrev S4x4096 : Shape := ⟨2, ![4, 4096]⟩
abbrev S4x4096x4096 : Shape := ⟨3, ![4, 4096, 4096]⟩

abbrev nBuf : Table → Nat
  | .hbm => 3
  | .shared => 1
  | .local .scVector .vmem => 3
  | _ => 0

abbrev bufTy : (tb : Table) → Fin (nBuf tb) → BufTy
  | .hbm, ⟨0, _⟩ => ⟨S16384x4096, .f32⟩
  | .hbm, ⟨1, _⟩ => ⟨S16384x4096, .f32⟩
  | .hbm, ⟨2, _⟩ => ⟨S4x4096x4096, .f32⟩
  | .shared, ⟨0, _⟩ => ⟨S16x2x4x4096, .f32⟩
  | .local .scVector .vmem, ⟨0, _⟩ => ⟨S8x4096, .f32⟩
  | .local .scVector .vmem, ⟨1, _⟩ => ⟨S8x4096, .f32⟩
  | .local .scVector .vmem, ⟨2, _⟩ => ⟨S8x4096, .f32⟩
  | _, _ => ⟨S16384x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v4 : BitVec 32 := Scalar.addi v2 c0_i32
  let c0_i32_0 : BitVec 32 := 0#32
  ![v4.toNat, 0]
def k0_off2 (i : grid0.Coords) : Fin 4 → Nat :=
  let arg1 : BitVec 32 := BitVec.ofNat 32 (i 1).val
  let c0_i32_7 : BitVec 32 := 0#32
  let c0_i32_8 : BitVec 32 := 0#32
  let c0_i32_9 : BitVec 32 := 0#32
  ![arg1.toNat, 0, 0, 0]
def k0_off3 (i : grid0.Coords) (c0_i32_6 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c320_i32 : BitVec 32 := 320#32
  let v3 : BitVec 32 := Scalar.addi v2 c320_i32
  let v13 : BitVec 32 := Scalar.addi v3 c0_i32_6
  let c0_i32_10 : BitVec 32 := 0#32
  ![v13.toNat, 0]
def k0_off4 (i : grid0.Coords) : Fin 4 → Nat :=
  let arg1 : BitVec 32 := BitVec.ofNat 32 (i 1).val
  let c1_i32 : BitVec 32 := 1#32
  let c0_i32_11 : BitVec 32 := 0#32
  let c0_i32_12 : BitVec 32 := 0#32
  ![arg1.toNat, 1, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x4096 : Shape := ⟨2, ![16384, 4096]⟩
abbrev S4x4096x4096 : Shape := ⟨3, ![4, 4096, 4096]⟩

abbrev nBuf : Space → Nat
  | .hbm => 2
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Sched.lean ====
/-
  What one vector subcore runs, as data: the chunks it copies, the four steps each chunk takes, and
  the order of the steps. The printed body is that list of steps, one effect each (`body_eq`).
-/
module

public import proofs.«01_k».proof.Defs
public import proofs.«01_k».proof.Proof.Gen.KernelIdeal
public import proofs.«01_k».proof.Proof.Gen.KernelIdeal.Skeleton

@[expose] public section

noncomputable section

namespace Cert.Proof.Copy

open Cert.KernelIdeal Cert.KernelIdeal.Gen
open Idealize.ShloMosaic Idealize.SL.Sem

variable {F : FTy → Type} [FloatOps F]

/-! ## Chunks and steps -/

/-- A chunk of a subcore's rows: one of forty of eight rows, staged in the subcore's own memory, or one
    of forty-eight of four rows, staged in the shared memory. -/
abbrev Chunk : Type := Fin 40 ⊕ Fin 48

/-- The four steps of a chunk: its copy in started and waited for, its copy out started and waited for. -/
inductive Step
  | load | loaded | store | stored
  deriving DecidableEq

/-- How far a chunk is: untouched; its copy in under way; in its buffer; its copy out under way; copied. -/
inductive Phase
  | todo | filling | full | draining | copied
  deriving DecidableEq

/-- The memory a chunk is staged in. -/
abbrev sp : Chunk → Space
  | .inl _ => .vmem
  | .inr _ => .shared

/-- A chunk's shape. -/
abbrev cs : Chunk → Shape
  | .inl _ => S8x4096
  | .inr _ => S4x4096

/-- The staging slot of a chunk: three in the subcore's own memory, two in the shared memory. -/
def slot : Chunk → Fin 5
  | .inl k => ⟨k.val % 3, by omega⟩
  | .inr k => ⟨3 + k.val % 2, by omega⟩

abbrev rectT (i : grid0.Coords) (k : Fin 40) : Rect S16384x4096 :=
  Rect.unit (s := S16384x4096) (k0_off1 i (BitVec.ofNat 32 (8 * k.val))) S8x4096.size (k0_off1_inb i k)
abbrev rectS (i : grid0.Coords) (k : Fin 48) : Rect S16384x4096 :=
  Rect.unit (s := S16384x4096) (k0_off3 i (BitVec.ofNat 32 (4 * k.val))) S4x4096.size (k0_off3_inb i k)

/-- The chunk's rows of `x`. -/
abbrev xv (i : grid0.Coords) : (ch : Chunk) → Memref sig .scVector .hbm (cs ch) .f32
  | .inl k => (Memref.whole main_arg0_scv).slice (rectT i k) (fun _ => rfl)
  | .inr k => (Memref.whole main_arg0_scv).slice (rectS i k) (fun _ => rfl)

/-- The chunk's rows of the copy. -/
abbrev ov (i : grid0.Coords) : (ch : Chunk) → Memref sig .scVector .hbm (cs ch) .f32
  | .inl k => (Memref.whole main_v0_scv).slice (rectT i k) (fun _ => rfl)
  | .inr k => (Memref.whole main_v0_scv).slice (rectS i k) (fun _ => rfl)

/-- The three buffers in the subcore's own memory. -/
abbrev tbuf : Fin 3 → Memref sig .scVector .vmem S8x4096 .f32
  | 0 => Memref.whole cc0_scratch0
  | 1 => Memref.whole cc0_scratch1
  | 2 => Memref.whole cc0_scratch2

/-- The subcore's two buffers in the shared memory. -/
abbrev sbuf (i : grid0.Coords) : Fin 2 → Memref sig .scVector .shared S4x4096 .f32
  | 0 => ((Memref.whole cc0_scratch3).slice (Rect.unit (s := S16x2x4x4096) (k0_off2 i) S1x1x4x4096.size (k0_off2_inb i)) (fun _ => rfl)).squeeze S4x4096 squeezes_S1x1x4x4096_S4x4096
  | 1 => ((Memref.whole cc0_scratch3).slice (Rect.unit (s := S16x2x4x4096) (k0_off4 i) S1x1x4x4096.size (k0_off4_inb i)) (fun _ => rfl)).squeeze S4x4096 squeezes_S1x1x4x4096_S4x4096

/-- The buffer a chunk is staged in. -/
abbrev bv (i : grid0.Coords) : (ch : Chunk) → Memref sig .scVector (sp ch) (cs ch) .f32
  | .inl k => tbuf ⟨k.val % 3, Nat.mod_lt _ (by decide)⟩
  | .inr k => sbuf i ⟨k.val % 2, Nat.mod_lt _ (by decide)⟩

/-- The semaphore a slot's copies in signal. -/
abbrev isem : Fin 5 → DmaSem sig
  | 0 => cc0_scratch4.sem
  | 1 => cc0_scratch5.sem
  | 2 => cc0_scratch6.sem
  | 3 => cc0_scratch10.sem
  | 4 => cc0_scratch11.sem

/-- The semaphore a slot's copies out signal. -/
abbrev osem : Fin 5 → DmaSem sig
  | 0 => cc0_scratch7.sem
  | 1 => cc0_scratch8.sem
  | 2 => cc0_scratch9.sem
  | 3 => cc0_scratch12.sem
  | 4 => cc0_scratch13.sem

abbrev Eff (i : grid0.Coords) : Type → Type := TpuEff nD τ sig (Elt F) Λ₀ (.scVector ((i 0).castLE hcore0) ((i 1).castLE hsub0))

theorem typed_in (i : grid0.Coords) (ch : Chunk) (sem : DmaSem sig) :
    (DmaTarget.here (bv i ch) : DmaTarget nD τ sig (.scVector ((i 0).castLE hcore0) ((i 1).castLE hsub0)) (sp ch) (cs ch) .f32).Typed .hbm (.dma sem) := by
  cases ch <;> exact ⟨Or.inl rfl, trivial⟩
theorem typed_out (i : grid0.Coords) (ch : Chunk) (sem : DmaSem sig) :
    (DmaTarget.here (ov i ch) : DmaTarget nD τ sig (.scVector ((i 0).castLE hcore0) ((i 1).castLE hsub0)) .hbm (cs ch) .f32).Typed (sp ch) (.dma sem) := by
  cases ch <;> exact ⟨Or.inl rfl, trivial⟩

/-- The effect of a step. -/
def eff (i : grid0.Coords) (ch : Chunk) : Step → Eff (F := F) i PUnit
  | .load => .enqueueDma (xv i ch) (.here (bv i ch)) (.dma (isem (slot ch))) (View.wordExact_bits rfl) (View.wordExact_bits rfl) (typed_in i ch _)
  | .loaded => .waitDma2 (isem (slot ch)) (xv i ch) (bv i ch) (View.wordExact_bits rfl) (View.wordExact_bits rfl)
  | .store => .enqueueDma (bv i ch) (.here (ov i ch)) (.dma (osem (slot ch))) (View.wordExact_bits rfl) (View.wordExact_bits rfl) (typed_out i ch _)
  | .stored => .waitDma2 (osem (slot ch)) (bv i ch) (ov i ch) (View.wordExact_bits rfl) (View.wordExact_bits rfl)

/-- A list of steps, run in order. -/
def run (i : grid0.Coords) : List (Chunk × Step) → Prog (Eff (F := F) i) PUnit
  | [] => .ret ⟨⟩
  | o :: os => .op (eff i o.1 o.2) fun _ => run i os

/-! ## The order of the steps -/

/-- Chunk number `k` of the first kind; of the second. -/
def T (k : ℕ) : Chunk := .inl (Fin.ofNat 40 k)
def S (k : ℕ) : Chunk := .inr (Fin.ofNat 48 k)

/-- Iteration `k` over the chunks of the first kind: the previous chunk of the slot waited for and the
    next one's copy in started, then this chunk's copy in waited for and its copy out started. -/
def turnT (k : ℕ) : List (Chunk × Step) :=
  (if 2 ≤ k ∧ k < 39 then [(T (k - 2), .stored), (T (k + 1), .load)] else []) ++ [(T k, .loaded), (T k, .store)]

/-- The same over the chunks of the second kind. -/
def turnS (k : ℕ) : List (Chunk × Step) :=
  (if 1 ≤ k ∧ k < 47 then [(S (k - 1), .stored), (S (k + 1), .load)] else []) ++ [(S k, .loaded), (S k, .store)]

/-- Iteration `k` and the iterations over the second kind that follow it. -/
def turn (k : ℕ) : List (Chunk × Step) :=
  turnT k ++ (List.range' (k * 48 / 40) ((k + 1) * 48 / 40 - k * 48 / 40)).flatMap turnS

/-- A subcore's steps. -/
def steps : List (Chunk × Step) :=
  [(T 0, .load), (T 1, .load), (T 2, .load), (S 0, .load), (S 1, .load)]
    ++ (List.range 40).flatMap turn
    ++ [(T 37, .stored), (T 38, .stored), (T 39, .stored), (S 46, .stored), (S 47, .stored)]

set_option maxRecDepth 65536 in
set_option maxHeartbeats 4000000 in
theorem body_eq (i : grid0.Coords) :
    cc0__sc_copy (F := F) i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13
      = run i steps := rfl

end Cert.Proof.Copy

end
-- ==== Proof.Steps.lean ====
/-
  Each step of a chunk, over what the subcore holds: the chunk's rows of `x` and of the copy, and the
  slot the chunk is staged in. The rows of the copy end at a given array that agrees with `x`.
-/
module

public import proofs.«01_k».proof.Proof.Sched
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Copy

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ

abbrev 𝒱₀ : Variants := Variants.none

/-- The vector subcore at coordinates `i` of device `d`. -/
abbrev tile (d : Dev nD) (i : grid0.Coords) : Thread nD τ := SparseCore.V d ((i 0).castLE hcore0) ((i 1).castLE hsub0)

/-! ## What the subcore holds -/

section Held

variable (d : Dev nD) (i : grid0.Coords)
variable (X : (ch : Chunk) → Buf (Elt F) ((xv i ch).view.loc (tile d i)))
variable (G : (ch : Chunk) → Buf (Elt F) ((ov i ch).view.loc (tile d i)))

abbrev xP (ch : Chunk) : sProp 𝕄 := (xv i ch).view.loc (tile d i) ↦[(xv i ch).view.set]{fullShare} X ch
abbrev oP (ch : Chunk) (f : Buf (Elt F) ((ov i ch).view.loc (tile d i))) : sProp 𝕄 :=
  (ov i ch).view.loc (tile d i) ↦[(ov i ch).view.set]{fullShare} f
abbrev bP (ch : Chunk) (f : Buf (Elt F) ((bv i ch).view.loc (tile d i))) : sProp 𝕄 :=
  (bv i ch).view.loc (tile d i) ↦[(bv i ch).view.set]{fullShare} f
abbrev iSem (s : Fin 5) : sProp 𝕄 := semVal (tile d i, .dma (isem s)) 0
abbrev oSem (s : Fin 5) : sProp 𝕄 := semVal (tile d i, .dma (osem s)) 0

/-- The first chunk of a slot. -/
def rep : Fin 5 → Chunk
  | 0 => .inl 0
  | 1 => .inl 1
  | 2 => .inl 2
  | 3 => .inr 0
  | 4 => .inr 1

/-- A slot with nothing under way: its buffer at some contents, its two semaphores at zero. -/
def idle (s : Fin 5) : sProp 𝕄 := iprop((∃ f, bP d i (rep s) f) ∗ iSem d i s ∗ oSem d i s)

/-- What the subcore holds of a chunk, by how far it is. -/
def held (ch : Chunk) : Phase → sProp 𝕄
  | .todo => iprop(xP d i X ch ∗ ∃ f, oP d i ch f)
  | .filling => iprop(Transfers.Flight countersEmb (tile d i) (.dma (isem (slot ch))) (default : HIx 1) (bv i ch).view.dmaCredit
        iprop((∃ f, ⌜(bv i ch).view.read (Elt F) f = (xv i ch).view.read (Elt F) (X ch)⌝ ∗ bP d i ch f) ∗ xP d i X ch)
      ∗ oSem d i (slot ch) ∗ ∃ f, oP d i ch f)
  | .full => iprop((∃ f, ⌜(bv i ch).view.read (Elt F) f = (xv i ch).view.read (Elt F) (X ch)⌝ ∗ bP d i ch f) ∗ xP d i X ch
      ∗ iSem d i (slot ch) ∗ oSem d i (slot ch) ∗ ∃ f, oP d i ch f)
  | .draining => iprop(Transfers.Flight countersEmb (tile d i) (.dma (osem (slot ch))) (default : HIx 1) (ov i ch).view.dmaCredit
        iprop(oP d i ch (G ch) ∗ ∃ f, bP d i ch f)
      ∗ iSem d i (slot ch) ∗ xP d i X ch)
  | .copied => iprop(xP d i X ch ∗ oP d i ch (G ch))

/-- The slots of the two kinds of chunk. -/
def tslot (r : Fin 3) : Fin 5 := ⟨r.val, by omega⟩
def sslot (r : Fin 2) : Fin 5 := ⟨3 + r.val, by omega⟩

/-- A slot's buffer is that of each of its chunks. -/
theorem buf_rep (ch : Chunk) : (iprop(∃ f, bP d i ch f) : sProp 𝕄) = iprop(∃ f, bP d i (rep (slot ch)) f) := by
  have hT : ∀ r : Fin 3, (iprop(∃ f, ((tbuf r).view.loc (tile d i) ↦[(tbuf r).view.set]{fullShare} f)) : sProp 𝕄)
      = iprop(∃ f, bP d i (rep (tslot r)) f) := fun r => by
    match r with
    | 0 => rfl
    | 1 => rfl
    | 2 => rfl
  have hS : ∀ r : Fin 2, (iprop(∃ f, ((sbuf i r).view.loc (tile d i) ↦[(sbuf i r).view.set]{fullShare} f)) : sProp 𝕄)
      = iprop(∃ f, bP d i (rep (sslot r)) f) := fun r => by
    match r with
    | 0 => rfl
    | 1 => rfl
  cases ch with
  | inl k => exact hT _
  | inr k => exact hS _

theorem numel_pos (ch : Chunk) : 0 < (cs ch).numel := by
  cases ch
  · exact (by decide : 0 < S8x4096.numel)
  · exact (by decide : 0 < S4x4096.numel)

variable [FloatOps F] (bd : Option (𝒱₀).V) {α : Type}

/-- What a copy out leaves: the chunk's rows of the copy at the given array, if that agrees with `x` there. -/
theorem out_eq (hG : ∀ ch, (ov i ch).view.read (Elt F) (G ch) = (xv i ch).view.read (Elt F) (X ch)) (ch : Chunk)
    (f : Buf (Elt F) ((ov i ch).view.loc (tile d i))) :
    (oP d i ch ((ov i ch).view.write (Elt F) f ((xv i ch).view.read (Elt F) (X ch)) Finset.univ) : sProp 𝕄) = oP d i ch (G ch) := by
  refine pointsTo_congr fun j hj => ?_
  obtain ⟨x, -, rfl⟩ := Finset.mem_map.mp hj
  rw [View.write_emb_of_mem _ _ (Finset.mem_univ x), ← hG ch, View.read_apply, cast_cast, cast_eq]

/-- A copy in is started. -/
theorem wp_load (Q : α → sProp 𝕄) (ch : Chunk) (k : PUnit → Prog (Eff (F := F) i) α) :
    iprop(held d i X G ch .todo ∗ idle d i (slot ch))
      ⊢ iprop((held d i X G ch .filling -∗ wp frame (wpE (defs₀ (F := F)) 𝒱₀ (tile d i) bd) Set.univ (k ⟨⟩) Q)
          -∗ wp frame (wpE (defs₀ (F := F)) 𝒱₀ (tile d i) bd) Set.univ (.op (eff i ch .load) k) Q) := by
  dsimp only [held, idle]
  rw [← buf_rep]
  iintro ⟨⟨Hx, Ho⟩, ⟨%f, Hb⟩, Hi, Hs⟩ Hk
  iapply (Transfers.wp_dmaLocal countersEmb 𝒱₀ (tile d i) bd (Q := Q) (src := xv i ch) (dst := bv i ch) (via := .same) (sm := .dma (isem (slot ch)))
    (default : HIx 1) (bv i ch).view.dmaCredit (View.amount_dma _ _) (View.dmaCredit_pos _ (numel_pos ch)) (Finset.Subset.refl _)) $$ [Hx Hb Hi]
  · isplitl [Hx]; · iexact Hx
    isplitl [Hb]; · iexact Hb
    iexact Hi
  iintro Hfl
  iapply Hk
  isplitl [Hfl]
  · iapply (Transfers.Flight_mono countersEmb (tile d i) (D := iprop(((bv i ch).view.loc (tile d i) ↦[(bv i ch).view.set]{fullShare}
      (bv i ch).view.write (Elt F) f ((xv i ch).view.read (Elt F) (X ch)) Finset.univ) ∗ xP d i X ch)) ?_)
    · iintro ⟨Hb, Hx⟩
      isplitl [Hb]
      · iexists _
        isplitr; swap; · iexact Hb
        ipureintro; exact View.read_write_univ _ _
      · iexact Hx
    · iexact Hfl
  isplitl [Hs]; · iexact Hs
  iexact Ho

/-- A copy in is waited for. -/
theorem wp_loaded (Q : α → sProp 𝕄) (ch : Chunk) (k : PUnit → Prog (Eff (F := F) i) α) (O : CellTallies nD τ sig (HIx 1)) (W : Waits sig (HIx 1)) :
    iprop(held d i X G ch .filling ∗ owes (tile d i) O W ∗ Transfers.MayWaits (tile d i) (default : HIx 1) O)
      ⊢ iprop(((held d i X G ch .full ∗ owes (tile d i) O (insert (.dma (isem (slot ch)), default) W)) -∗ wp frame (wpE (defs₀ (F := F)) 𝒱₀ (tile d i) bd) Set.univ (k ⟨⟩) Q)
          -∗ wp frame (wpE (defs₀ (F := F)) 𝒱₀ (tile d i) bd) Set.univ (.op (eff i ch .loaded) k) Q) := by
  dsimp only [held]
  iintro ⟨⟨Hfl, Hs, Ho⟩, HO, Hmw⟩ Hk
  iapply (Transfers.wp_waitLocalO countersEmb 𝒱₀ (tile d i) bd (Q := Q) (srcw := xv i ch) (dstw := bv i ch) (sem := isem (slot ch)) (hsrc := View.wordExact_bits rfl) (hdst := View.wordExact_bits rfl) (default : HIx 1) rfl) $$ [Hfl HO Hmw]
  · isplitl [Hfl]; · iexact Hfl
    isplitl [HO]; · iexact HO
    iapply (Transfers.MayWaits.elim _) $$ Hmw
  iintro ⟨⟨Hb, Hx⟩, Hi, HO⟩
  iapply Hk
  isplitr [HO]; swap; · iexact HO
  isplitl [Hb]; · iexact Hb
  isplitl [Hx]; · iexact Hx
  isplitl [Hi]; · iexact Hi
  isplitl [Hs]; · iexact Hs
  iexact Ho

/-- A copy out is started. -/
theorem wp_store (Q : α → sProp 𝕄) (hG : ∀ ch, (ov i ch).view.read (Elt F) (G ch) = (xv i ch).view.read (Elt F) (X ch)) (ch : Chunk)
    (k : PUnit → Prog (Eff (F := F) i) α) :
    held d i X G ch .full
      ⊢ iprop((held d i X G ch .draining -∗ wp frame (wpE (defs₀ (F := F)) 𝒱₀ (tile d i) bd) Set.univ (k ⟨⟩) Q)
          -∗ wp frame (wpE (defs₀ (F := F)) 𝒱₀ (tile d i) bd) Set.univ (.op (eff i ch .store) k) Q) := by
  dsimp only [held]
  iintro ⟨⟨%g, %hg, Hb⟩, Hx, Hi, Hs, %f, Ho⟩ Hk
  iapply (Transfers.wp_dmaLocal countersEmb 𝒱₀ (tile d i) bd (Q := Q) (src := bv i ch) (dst := ov i ch) (via := .same) (sm := .dma (osem (slot ch)))
    (default : HIx 1) (ov i ch).view.dmaCredit (View.amount_dma _ _) (View.dmaCredit_pos _ (numel_pos ch)) (Finset.Subset.refl _)) $$ [Hb Ho Hs]
  · isplitl [Hb]; · iexact Hb
    isplitl [Ho]; · iexact Ho
    iexact Hs
  iintro Hfl
  iapply Hk
  isplitl [Hfl]
  · iapply (Transfers.Flight_mono countersEmb (tile d i) (D := iprop(((ov i ch).view.loc (tile d i) ↦[(ov i ch).view.set]{fullShare}
      (ov i ch).view.write (Elt F) f ((bv i ch).view.read (Elt F) g) Finset.univ) ∗ bP d i ch g)) ?_)
    · rw [hg]
      iintro ⟨Ho, Hb⟩
      isplitl [Ho]
      · iapply (Entails.of_eq (out_eq d i X G hG ch f)); iexact Ho
      · iexists _; iexact Hb
    · iexact Hfl
  isplitl [Hi]; · iexact Hi
  iexact Hx

/-- A copy out is waited for. -/
theorem wp_stored (Q : α → sProp 𝕄) (ch : Chunk) (k : PUnit → Prog (Eff (F := F) i) α) (O : CellTallies nD τ sig (HIx 1)) (W : Waits sig (HIx 1)) :
    iprop(held d i X G ch .draining ∗ owes (tile d i) O W ∗ Transfers.MayWaits (tile d i) (default : HIx 1) O)
      ⊢ iprop(((held d i X G ch .copied ∗ idle d i (slot ch) ∗ owes (tile d i) O (insert (.dma (osem (slot ch)), default) W)) -∗ wp frame (wpE (defs₀ (F := F)) 𝒱₀ (tile d i) bd) Set.univ (k ⟨⟩) Q)
          -∗ wp frame (wpE (defs₀ (F := F)) 𝒱₀ (tile d i) bd) Set.univ (.op (eff i ch .stored) k) Q) := by
  dsimp only [held, idle]
  rw [← buf_rep]
  iintro ⟨⟨Hfl, Hi, Hx⟩, HO, Hmw⟩ Hk
  iapply (Transfers.wp_waitLocalO countersEmb 𝒱₀ (tile d i) bd (Q := Q) (srcw := bv i ch) (dstw := ov i ch) (sem := osem (slot ch)) (hsrc := View.wordExact_bits rfl) (hdst := View.wordExact_bits rfl) (default : HIx 1) rfl) $$ [Hfl HO Hmw]
  · isplitl [Hfl]; · iexact Hfl
    isplitl [HO]; · iexact HO
    iapply (Transfers.MayWaits.elim _) $$ Hmw
  iintro ⟨⟨Ho, Hb⟩, Hs, HO⟩
  iapply Hk
  isplitl [Hx Ho]
  · isplitl [Hx]; · iexact Hx
    iexact Ho
  isplitr [HO]; swap; · iexact HO
  isplitl [Hb]; · iexact Hb
  isplitl [Hi]; · iexact Hi
  iexact Hs

end Held

end Cert.Proof.Copy

end
-- ==== Proof.Track.lean ====
/-
  Where the chunks and slots stand as a subcore's steps are run: the account of a list of steps, that the
  subcore's own list is accepted and copies every chunk, and the run of an accepted list.
-/
module

public import proofs.«01_k».proof.Proof.Steps

@[expose] public section

noncomputable section

namespace Cert.Proof.Copy

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The account -/

/-- How far each chunk is, and which slots are taken. -/
structure Acct where
  ph : Chunk → Phase
  busy : Fin 5 → Bool

/-- A step's change, if it may be taken: a copy in starts on a free slot, and a slot is free again once the copy out has
    been waited for. -/
def Acct.take (a : Acct) (ch : Chunk) : Step → Option Acct
  | .load => if a.ph ch = .todo ∧ a.busy (slot ch) = false then
      some ⟨Function.update a.ph ch .filling, Function.update a.busy (slot ch) true⟩ else none
  | .loaded => if a.ph ch = .filling then some ⟨Function.update a.ph ch .full, a.busy⟩ else none
  | .store => if a.ph ch = .full then some ⟨Function.update a.ph ch .draining, a.busy⟩ else none
  | .stored => if a.ph ch = .draining ∧ a.busy (slot ch) = true then
      some ⟨Function.update a.ph ch .copied, Function.update a.busy (slot ch) false⟩ else none

/-- A list's. -/
def Acct.takes (a : Acct) : List (Chunk × Step) → Option Acct
  | [] => some a
  | o :: os => (a.take o.1 o.2).bind fun b => b.takes os

def start : Acct := ⟨fun _ => .todo, fun _ => false⟩

/-- Every chunk is copied and every slot free. -/
def Acct.over (a : Acct) : Bool := decide ((∀ ch, a.ph ch = .copied) ∧ ∀ s, a.busy s = false)

set_option maxRecDepth 65536 in
theorem steps_over : (start.takes steps).any Acct.over = true := by decide +kernel

/-- The subcore's list is accepted and ends with everything copied. -/
theorem steps_takes : start.takes steps = some ⟨fun _ => .copied, fun _ => false⟩ := by
  have h := steps_over
  cases hs : start.takes steps with
  | none => rw [hs] at h; exact absurd h (by decide)
  | some a =>
    rw [hs] at h
    have h' := of_decide_eq_true (show decide _ = true from h)
    obtain ⟨ph, busy⟩ := a
    congr 2
    · exact funext h'.1
    · exact funext h'.2

/-! ## The run of an accepted list -/

section Run

variable (d : Dev nD) (i : grid0.Coords)
variable (X : (ch : Chunk) → Buf (Elt F) ((xv i ch).view.loc (tile d i)))
variable (G : (ch : Chunk) → Buf (Elt F) ((ov i ch).view.loc (tile d i)))

def free (busy : Bool) (s : Fin 5) : sProp 𝕄 := if busy then iprop(emp) else idle d i s

/-- What the subcore holds at an account. -/
def holds (a : Acct) : sProp 𝕄 :=
  iprop((bigSep Finset.univ fun ch => held d i X G ch (a.ph ch)) ∗ bigSep Finset.univ fun s => free d i (a.busy s) s)

/-- One member of a family changed. -/
theorem bigSep_change {I A : Type} [Fintype I] [DecidableEq I] (Φ : I → A → sProp 𝕄) (a : I → A) (j : I) (v : A) :
    (bigSep Finset.univ fun x => Φ x (Function.update a j v x)) = iprop(Φ j v ∗ bigSep (Finset.univ.erase j) fun x => Φ x (a x)) := by
  rw [SparseCore.bigSep_erase' (Finset.mem_univ j), Function.update_self]
  congr 1
  exact bigSep_congr fun x hx => by rw [Function.update_of_ne (Finset.ne_of_mem_erase hx)]

theorem bigSep_at {I A : Type} [Fintype I] [DecidableEq I] (Φ : I → A → sProp 𝕄) (a : I → A) (j : I) :
    (bigSep Finset.univ fun x => Φ x (a x)) = iprop(Φ j (a j) ∗ bigSep (Finset.univ.erase j) fun x => Φ x (a x)) :=
  SparseCore.bigSep_erase' (Finset.mem_univ j)

variable [FloatOps F] (bd : Option (𝒱₀).V)

/-- What the run of the rest of a list needs and gives. -/
abbrev rest (O : CellTallies nD τ sig (HIx 1)) (W : Waits sig (HIx 1)) (a : Acct) : sProp 𝕄 :=
  iprop(holds d i X G a ∗ ∃ W', ⌜∀ p ∈ W', p ∈ W ∨ p.2 = none⌝ ∗ owes (tile d i) O W')

theorem wp_take (hG : ∀ ch, (ov i ch).view.read (Elt F) (G ch) = (xv i ch).view.read (Elt F) (X ch))
    (O : CellTallies nD τ sig (HIx 1)) (W : Waits sig (HIx 1)) {α : Type} (Q : α → sProp 𝕄) (k : PUnit → Prog (Eff (F := F) i) α)
    (ch : Chunk) (s : Step) (a b : Acct) (h : a.take ch s = some b) :
    iprop(rest d i X G O W a ∗ Transfers.MayWaits (tile d i) (default : HIx 1) O)
      ⊢ iprop((rest d i X G O W b -∗ wp frame (wpE (defs₀ (F := F)) 𝒱₀ (tile d i) bd) Set.univ (k ⟨⟩) Q)
          -∗ wp frame (wpE (defs₀ (F := F)) 𝒱₀ (tile d i) bd) Set.univ (.op (eff i ch s) k) Q) := by
  obtain ⟨ph, busy⟩ := a
  unfold rest holds
  dsimp only
  rw [bigSep_at (held d i X G) ph ch]
  cases s with
  | load =>
    simp only [Acct.take, Option.ite_none_right_eq_some, Option.some.injEq] at h
    obtain ⟨⟨h1, h2⟩, rfl⟩ := h
    dsimp only
    rw [bigSep_change (held d i X G), bigSep_change (fun s v => free d i v s), bigSep_at (fun s v => free d i v s) busy (slot ch), h1, h2]
    simp only [free, Bool.false_eq_true, if_false, if_true]
    iintro ⟨⟨⟨⟨Hc, Hcs⟩, Hs, Hss⟩, HO⟩, -⟩ Hk
    iapply (wp_load d i X G bd Q ch k) $$ [Hc Hs]
    · isplitl [Hc] <;> iassumption
    iintro Hc
    iapply Hk
    isplitr [HO]; swap; · iexact HO
    isplitl [Hc Hcs]
    · isplitl [Hc] <;> iassumption
    isplitr; · iempintro
    iexact Hss
  | loaded =>
    simp only [Acct.take, Option.ite_none_right_eq_some, Option.some.injEq] at h
    obtain ⟨h1, rfl⟩ := h
    dsimp only
    rw [bigSep_change (held d i X G), h1]
    iintro ⟨⟨⟨⟨Hc, Hcs⟩, Hss⟩, %W', %hW, HO⟩, Hmw⟩ Hk
    iapply (wp_loaded d i X G bd Q ch k O W') $$ [Hc HO Hmw]
    · isplitl [Hc]; · iexact Hc
      isplitl [HO] <;> iassumption
    iintro ⟨Hc, HO⟩
    iapply Hk
    isplitr [HO]
    · isplitr [Hss]; swap; · iexact Hss
      isplitl [Hc] <;> iassumption
    iexists _
    isplitr; swap; · iexact HO
    ipureintro
    intro p hp
    rcases Finset.mem_insert.mp hp with rfl | hp
    · exact .inr rfl
    · exact hW p hp
  | store =>
    simp only [Acct.take, Option.ite_none_right_eq_some, Option.some.injEq] at h
    obtain ⟨h1, rfl⟩ := h
    dsimp only
    rw [bigSep_change (held d i X G), h1]
    iintro ⟨⟨⟨⟨Hc, Hcs⟩, Hss⟩, HO⟩, -⟩ Hk
    iapply (wp_store d i X G bd Q hG ch k) $$ Hc
    iintro Hc
    iapply Hk
    isplitr [HO]; swap; · iexact HO
    isplitr [Hss]; swap; · iexact Hss
    isplitl [Hc] <;> iassumption
  | stored =>
    simp only [Acct.take, Option.ite_none_right_eq_some, Option.some.injEq] at h
    obtain ⟨⟨h1, h2⟩, rfl⟩ := h
    dsimp only
    rw [bigSep_change (held d i X G), bigSep_change (fun s v => free d i v s), bigSep_at (fun s v => free d i v s) busy (slot ch), h1, h2]
    simp only [free, Bool.false_eq_true, if_false, if_true]
    iintro ⟨⟨⟨⟨Hc, Hcs⟩, -, Hss⟩, %W', %hW, HO⟩, Hmw⟩ Hk
    iapply (wp_stored d i X G bd Q ch k O W') $$ [Hc HO Hmw]
    · isplitl [Hc]; · iexact Hc
      isplitl [HO] <;> iassumption
    iintro ⟨Hc, Hs, HO⟩
    iapply Hk
    isplitr [HO]
    · isplitl [Hc Hcs]
      · isplitl [Hc] <;> iassumption
      · isplitl [Hs] <;> iassumption
    iexists _
    isplitr; swap; · iexact HO
    ipureintro
    intro p hp
    rcases Finset.mem_insert.mp hp with rfl | hp
    · exact .inr rfl
    · exact hW p hp

/-- An accepted list runs, from the account it starts at to the one it ends at. -/
theorem wp_takes (hG : ∀ ch, (ov i ch).view.read (Elt F) (G ch) = (xv i ch).view.read (Elt F) (X ch))
    (O : CellTallies nD τ sig (HIx 1)) (W : Waits sig (HIx 1)) (b : Acct) :
    ∀ (os : List (Chunk × Step)) (a : Acct), a.takes os = some b →
      iprop(rest d i X G O W a ∗ Transfers.MayWaits (tile d i) (default : HIx 1) O)
        ⊢ wp frame (wpE (defs₀ (F := F)) 𝒱₀ (tile d i) bd) Set.univ (run i os) fun _ => rest d i X G O W b
  | [], a, h => by
    obtain rfl : a = b := Option.some.inj h
    unfold run
    rw [wp_ret]
    iintro ⟨H, -⟩
    imodintro
    iexact H
  | o :: os, a, h => by
    obtain ⟨c, hc, hb⟩ := Option.bind_eq_some_iff.mp (show (a.take o.1 o.2).bind (fun b => b.takes os) = some b from h)
    unfold run
    iintro ⟨H, #Hmw⟩
    iapply (wp_take d i X G bd hG O W _ _ o.1 o.2 a c hc) $$ [H]
    · isplitl [H]; · iexact H
      iexact Hmw
    iintro H
    iapply (wp_takes hG O W b os c hb)
    isplitl [H]; · iexact H
    iexact Hmw

end Run

end Cert.Proof.Copy

end
-- ==== Proof.Tile.lean ====
/-
  A vector subcore's task: from its rows of `x` and of the copy, its two buffers in the shared memory and
  what is its own, to the same with its rows of the copy at `x`'s.
-/
module

public import proofs.«01_k».proof.Proof.Track

@[expose] public section

noncomputable section

namespace Cert.Proof.Copy

open Cert.KernelIdeal Cert.KernelIdeal.Gen
open Idealize.ShloMosaic
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)

variable (m : (ℓ : Loc nD τ sig) → Buf (Elt F) ℓ)

abbrev xLoc (d : Dev nD) : Loc nD τ sig := (SparseCore.T d).loc main_arg0
abbrev oLoc (d : Dev nD) : Loc nD τ sig := (SparseCore.T d).loc main_v0

/-- The copy at its end: `x`'s launch contents. -/
abbrev copyOf (d : Dev nD) : Buf (Elt F) (oLoc d) := m (xLoc d)

section Task

variable (d : Dev nD) (i : grid0.Coords)

/-- `x`, as each chunk's rows of it are addressed. -/
abbrev xAt : (ch : Chunk) → Buf (Elt F) ((xv i ch).view.loc (tile d i))
  | .inl _ => m (xLoc d)
  | .inr _ => m (xLoc d)

/-- The finished copy, as each chunk's rows of it are addressed. -/
abbrev gAt : (ch : Chunk) → Buf (Elt F) ((ov i ch).view.loc (tile d i))
  | .inl _ => copyOf m d
  | .inr _ => copyOf m d

theorem gAt_read (ch : Chunk) : (ov i ch).view.read (Elt F) (gAt m d i ch) = (xv i ch).view.read (Elt F) (xAt m d i ch) := by
  cases ch <;> rfl

/-- A chunk at a phase, over the launch contents. -/
abbrev piece (ch : Chunk) (p : Phase) : sProp 𝕄 := held d i (xAt m d i) (gAt m d i) ch p

/-- The subcore's buffer `b` in the shared memory. -/
abbrev shP (b : Fin 2) (f : Buf (Elt F) ((sbuf i b).view.loc (tile d i))) : sProp 𝕄 :=
  (sbuf i b).view.loc (tile d i) ↦[(sbuf i b).view.set]{fullShare} f

/-- A task's share of the operands: every chunk at a phase, and its two buffers in the shared memory. -/
def share (p : Phase) : sProp 𝕄 :=
  iprop((bigSep Finset.univ fun ch => piece m d i ch p) ∗ (∃ f, shP d i 0 f) ∗ ∃ f, shP d i 1 f)

/-! ### The subcore's own semaphores and buffers -/

theorem isem_inj : Function.Injective (isem : Fin 5 → DmaSem sig) := by decide
theorem osem_inj : Function.Injective (osem : Fin 5 → DmaSem sig) := by decide
theorem isem_ne_osem : ∀ a b : Fin 5, (isem a : DmaSem sig) ≠ osem b := by decide
theorem isem_scoped : ∀ a : Fin 5, (SemLoc.dma (isem a) : SemLoc sig).isScoped .scVector = true := by decide
theorem osem_scoped : ∀ a : Fin 5, (SemLoc.dma (osem a) : SemLoc sig).isScoped .scVector = true := by decide

abbrev iCell (s : Fin 5) : GSem nD τ sig := (tile d i, .dma (isem s))
abbrev oCell (s : Fin 5) : GSem nD τ sig := (tile d i, .dma (osem s))

theorem iCell_inj : Function.Injective (iCell d i) := fun a b h => isem_inj (SemLoc.dma.inj (Prod.mk.inj h).2)
theorem oCell_inj : Function.Injective (oCell d i) := fun a b h => osem_inj (SemLoc.dma.inj (Prod.mk.inj h).2)

theorem sems_split :
    (ownSems0 (tile d i) : sProp 𝕄)
      = iprop((bigSep Finset.univ fun s => iSem d i s) ∗ (bigSep Finset.univ fun s => oSem d i s)
          ∗ bigSep ((ownCells (tile d i) \ Finset.univ.image (iCell d i)) \ Finset.univ.image (oCell d i)) fun g => semVal g 0) := by
  unfold SparseCore.Cfg.ownSems0
  rw [SparseCore.bigSep_sdiff_split' (s := ownCells (tile d i)) (t := Finset.univ.image (iCell d i)) (fun g hg => by
      obtain ⟨s, -, rfl⟩ := Finset.mem_image.mp hg
      exact mem_ownCells.mpr ⟨rfl, isem_scoped s⟩),
    SparseCore.bigSep_sdiff_split' (s := ownCells (tile d i) \ Finset.univ.image (iCell d i)) (t := Finset.univ.image (oCell d i)) (fun g hg => by
      obtain ⟨s, -, rfl⟩ := Finset.mem_image.mp hg
      refine Finset.mem_sdiff.mpr ⟨mem_ownCells.mpr ⟨rfl, osem_scoped s⟩, fun h => ?_⟩
      obtain ⟨r, -, h⟩ := Finset.mem_image.mp h
      exact isem_ne_osem r s (SemLoc.dma.inj (Prod.mk.inj h).2)),
    SparseCore.bigSep_image_of_injOn (fun a _ b _ h => iCell_inj d i h), SparseCore.bigSep_image_of_injOn (fun a _ b _ h => oCell_inj d i h)]

/-- The three buffers, as references. -/
abbrev tref : Fin 3 → Ref sig .scVector
  | 0 => cc0_scratch0
  | 1 => cc0_scratch1
  | 2 => cc0_scratch2

abbrev dref (r : Fin 3) : DevRef τ sig := (Proc.scVector ((i 0).castLE hcore0) ((i 1).castLE hsub0) : Proc τ).devRef (tref r)

theorem dref_inj : Function.Injective (dref i) := by
  intro a b h
  match a, b with
  | 0, 0 => rfl
  | 1, 1 => rfl
  | 2, 2 => rfl
  | 0, 1 => exact absurd h (by simp [dref])
  | 0, 2 => exact absurd h (by simp [dref])
  | 1, 0 => exact absurd h (by simp [dref])
  | 1, 2 => exact absurd h (by simp [dref])
  | 2, 0 => exact absurd h (by simp [dref])
  | 2, 1 => exact absurd h (by simp [dref])

theorem bufs_split :
    (ownBufs (tile d i) : sProp 𝕄)
      = iprop((bigSep Finset.univ fun r : Fin 3 => iprop(∃ f, ((d, dref i r) : Loc nD τ sig) ↦{fullShare} f))
          ∗ bigSep (ownRefs (τ := τ) (.scVector ((i 0).castLE hcore0) ((i 1).castLE hsub0)) \ Finset.univ.image (dref i))
              fun b => iprop(∃ f, ((d, b) : Loc nD τ sig) ↦{fullShare} f)) := by
  unfold SparseCore.Cfg.ownBufs
  rw [SparseCore.bigSep_sdiff_split' (t := Finset.univ.image (dref i)) (fun b hb => by
      obtain ⟨r, -, rfl⟩ := Finset.mem_image.mp hb
      refine SparseCore.Cfg.mem_ownRefs_of_owner ?_
      match r with
      | 0 => rfl
      | 1 => rfl
      | 2 => rfl),
    SparseCore.bigSep_image_of_injOn (fun a _ b _ h => dref_inj i h)]

/-- The five slots with nothing under way. -/
theorem idle_all :
    (bigSep Finset.univ fun s => idle (F := F) d i s)
      = (iprop(((bigSep Finset.univ fun r : Fin 3 => iprop(∃ f, ((d, dref i r) : Loc nD τ sig) ↦{fullShare} f)) ∗ (∃ f, shP d i 0 f) ∗ ∃ f, shP d i 1 f)
          ∗ (bigSep Finset.univ fun s => iSem d i s) ∗ bigSep Finset.univ fun s => oSem d i s) : sProp 𝕄) := by
  unfold idle
  rw [bigSep_sep', bigSep_sep']
  congr 1
  have h5 : ∀ Φ : Fin 5 → sProp 𝕄, bigSep Finset.univ Φ = iprop(Φ 0 ∗ Φ 1 ∗ Φ 2 ∗ Φ 3 ∗ Φ 4) := fun Φ => by
    rw [show (Finset.univ : Finset (Fin 5)) = {0, 1, 2, 3, 4} by decide, SparseCore.bigSep_insert' (by decide), SparseCore.bigSep_insert' (by decide),
      SparseCore.bigSep_insert' (by decide), SparseCore.bigSep_insert' (by decide), bigSep_singleton]
  have h3 : ∀ Φ : Fin 3 → sProp 𝕄, bigSep Finset.univ Φ = iprop(Φ 0 ∗ Φ 1 ∗ Φ 2) := fun Φ => by
    rw [show (Finset.univ : Finset (Fin 3)) = {0, 1, 2} by decide, SparseCore.bigSep_insert' (by decide), SparseCore.bigSep_insert' (by decide), bigSep_singleton]
  have h0 : (iprop(∃ f, bP d i (rep 0) f) : sProp 𝕄) = iprop(∃ f, ((d, dref i 0) : Loc nD τ sig) ↦{fullShare} f) := by
    show (iprop(∃ f, (tbuf 0).view.loc (tile d i) ↦[(tbuf 0).view.set]{fullShare} f) : sProp 𝕄) = _
    rw [show (tbuf 0).view.set = Finset.univ from View.set_whole _]
  have h1 : (iprop(∃ f, bP d i (rep 1) f) : sProp 𝕄) = iprop(∃ f, ((d, dref i 1) : Loc nD τ sig) ↦{fullShare} f) := by
    show (iprop(∃ f, (tbuf 1).view.loc (tile d i) ↦[(tbuf 1).view.set]{fullShare} f) : sProp 𝕄) = _
    rw [show (tbuf 1).view.set = Finset.univ from View.set_whole _]
  have h2 : (iprop(∃ f, bP d i (rep 2) f) : sProp 𝕄) = iprop(∃ f, ((d, dref i 2) : Loc nD τ sig) ↦{fullShare} f) := by
    show (iprop(∃ f, (tbuf 2).view.loc (tile d i) ↦[(tbuf 2).view.set]{fullShare} f) : sProp 𝕄) = _
    rw [show (tbuf 2).view.set = Finset.univ from View.set_whole _]
  rw [h5, h3, h0, h1, h2]
  show iprop(_ ∗ _ ∗ _ ∗ (∃ f, shP d i 0 f) ∗ ∃ f, shP d i 1 f) = _
  have hassoc : ∀ P Q R : sProp 𝕄, iprop((P ∗ Q) ∗ R) = iprop(P ∗ Q ∗ R) := fun _ _ _ => equiv_iff.mp ⟨BI.sep_assoc, BI.sep_assoc'⟩
  rw [hassoc, hassoc]

variable [FloatOps F]

/-- The task's program. -/
def body : Prog (Eff (F := F) i) PUnit :=
  cc0__sc_copy (F := F) i (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13

/-- The task of the vector subcore at `i` of device `d`. -/
theorem tile_body (hF : (K (F := F)).Facts) (O : CellTallies nD τ sig (HIx 1)) (W : Waits sig (HIx 1)) (hO : ∀ g, O g none = 0) :
    iprop(levAts (K (F := F)).L (K (F := F)).lev ∗ share m d i .todo ∗ scopedBufs (tile d i) ∗ scopedSems0 (tile d i) ∗ owes (tile d i) O W)
      ⊢ wp frame (wpE (defs₀ (F := F)) 𝒱₀ (tile d i) none) Set.univ (body i)
          fun _ => iprop(share m d i .copied ∗ scopedBufs (tile d i) ∗ scopedSems0 (tile d i)
            ∗ ∃ W', ⌜∀ p ∈ W', p ∈ W ∨ p.2 = none ∨ p.2 = some (0 : Fin 1)⌝ ∗ owes (tile d i) O W') := by
  unfold body share
  rw [body_eq, (K (F := F)).scopedBufs_V hF d _ _, SparseCore.Cfg.scopedSems0_V (Val := Elt F) d _ _]
  rw [show (ownSems0 (SparseCore.V d ((i 0).castLE hcore0) ((i 1).castLE hsub0)) : sProp 𝕄) = _ from sems_split d i,
    show (ownBufs (SparseCore.V d ((i 0).castLE hcore0) ((i 1).castLE hsub0)) : sProp 𝕄) = _ from bufs_split d i]
  have hrun := wp_takes d i (xAt m d i) (gAt m d i) none (gAt_read m d i) O W _ steps _ steps_takes
  unfold rest holds free start at hrun
  dsimp only at hrun
  simp only [Bool.false_eq_true, if_false] at hrun
  rw [idle_all] at hrun
  iintro ⟨#Hlv, ⟨Hc, Hs0, Hs1⟩, ⟨Hb, Hbs⟩, ⟨Hi, Ho, Hss⟩, HO⟩
  ihave Hmw := (show levAts (K (F := F)).L (K (F := F)).lev ⊢ Transfers.MayWaits (tile d i) (default : HIx 1) O from
    (K (F := F)).mayWaits_none (thr := tile d i) hO) $$ Hlv
  iapply (wp_wand _ _) $$ [Hc Hs0 Hs1 Hb Hi Ho HO Hmw]
  · iapply hrun
    isplitr [Hmw]; swap; · iexact Hmw
    isplitr [HO]
    · isplitl [Hc]; · iexact Hc
      isplitr [Hi Ho]
      · isplitl [Hb]; · iexact Hb
        isplitl [Hs0] <;> iassumption
      · isplitl [Hi] <;> iassumption
    · iexists W
      isplitr; swap; · iexact HO
      ipureintro; exact fun p hp => .inl hp
  iintro %_ ⟨⟨Hc, ⟨Hb, Hs0, Hs1⟩, Hi, Ho⟩, %W', %hW, HO⟩
  isplitl [Hc Hs0 Hs1]
  · isplitl [Hc]; · iexact Hc
    isplitl [Hs0] <;> iassumption
  isplitl [Hb Hbs]
  · isplitl [Hb] <;> iassumption
  isplitl [Hi Ho Hss]
  · isplitl [Hi]; · iexact Hi
    isplitl [Ho] <;> iassumption
  iexists W'
  isplitr; swap; · iexact HO
  ipureintro
  exact fun p hp => (hW p hp).imp_right .inl

end Task

end Cert.Proof.Copy

end
-- ==== Proof.Rows.lean ====
/-
  The chunks' rows: they split `x` and the copy among the subcores, and the subcores' buffers split each
  SparseCore's shared memory.
-/
module

public import proofs.«01_k».proof.Proof.Tile

@[expose] public section

noncomputable section

namespace Cert.Proof.Copy

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid's point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ### The rows of one chunk -/

/-- A chunk's first row. -/
def first (i : grid0.Coords) : Chunk → ℕ
  | .inl k => 1024 * (i 1).val + 512 * (i 0).val + 8 * k.val
  | .inr k => 1024 * (i 1).val + 512 * (i 0).val + 4 * k.val + 320

/-- How many rows a chunk has. -/
def height : Chunk → ℕ
  | .inl _ => 8
  | .inr _ => 4

/-- The elements of a chunk. -/
def rows (i : grid0.Coords) : Chunk → Finset S16384x4096.Idx
  | .inl k => (rectT i k).set
  | .inr k => (rectS i k).set

theorem mem_rows (i : grid0.Coords) (ch : Chunk) (j : S16384x4096.Idx) :
    j ∈ rows i ch ↔ first i ch ≤ (j 0).val ∧ (j 0).val < first i ch + height ch := by
  have h1 : (j 1).val < 4096 := (j 1).isLt
  cases ch with
  | inl k =>
    unfold rows rectT first height
    rw [Rect.mem_set_unit, k0_off1_eq]
    refine ⟨fun h => h 0, fun h a => ?_⟩
    match a with
    | 0 => exact h
    | 1 => exact ⟨Nat.zero_le _, by show (j 1).val < 0 + 4096; omega⟩
  | inr k =>
    unfold rows rectS first height
    rw [Rect.mem_set_unit, k0_off3_eq]
    refine ⟨fun h => h 0, fun h a => ?_⟩
    match a with
    | 0 => exact h
    | 1 => exact ⟨Nat.zero_le _, by show (j 1).val < 0 + 4096; omega⟩

/-- A chunk, named by its SparseCore, its subcore and its place among the subcore's chunks. -/
abbrev Piece : Type := (Fin (grid0.bound 0) × Fin (grid0.bound 1)) × Chunk

abbrev rowsP (p : Piece) : Finset S16384x4096.Idx := rows (coordsV p.1.1 p.1.2) p.2

theorem rows_disjoint : ∀ p ∈ (Finset.univ : Finset Piece), ∀ q ∈ (Finset.univ : Finset Piece), p ≠ q → Disjoint (rowsP p) (rowsP q) := by
  rintro ⟨⟨c, s⟩, ch⟩ - ⟨⟨c', s'⟩, ch'⟩ - hne
  refine Finset.disjoint_left.mpr fun j hj hj' => hne ?_
  rw [mem_rows] at hj hj'
  have hc : c.val < 2 := c.isLt
  have hc' : c'.val < 2 := c'.isLt
  have hcc : c.val = c'.val ∧ s.val = s'.val := by
    cases ch <;> cases ch' <;> (dsimp only [first, height, coordsV] at hj hj'; omega)
  obtain rfl : c = c' := Fin.ext hcc.1
  obtain rfl : s = s' := Fin.ext hcc.2
  cases ch <;> cases ch' <;> dsimp only [first, height, coordsV] at hj hj'
  · refine Prod.ext rfl (congrArg Sum.inl (Fin.ext ?_)); omega
  · omega
  · omega
  · refine Prod.ext rfl (congrArg Sum.inr (Fin.ext ?_)); omega

theorem rows_cover : (Finset.univ : Finset Piece).biUnion rowsP = Finset.univ := by
  refine Finset.eq_univ_iff_forall.mpr fun j => ?_
  rw [Finset.mem_biUnion]
  have hj : (j 0).val < 16384 := (j 0).isLt
  let c : Fin (grid0.bound 0) := ⟨(j 0).val % 1024 / 512, show _ < 2 by omega⟩
  let s : Fin (grid0.bound 1) := ⟨(j 0).val / 1024, show _ < 16 by omega⟩
  by_cases h : (j 0).val % 512 < 320
  · refine ⟨((c, s), .inl ⟨(j 0).val % 512 / 8, by omega⟩), Finset.mem_univ _, (mem_rows _ _ _).mpr ?_⟩
    dsimp only [first, height, coordsV, c, s]
    omega
  · refine ⟨((c, s), .inr ⟨((j 0).val % 512 - 320) / 4, by omega⟩), Finset.mem_univ _, (mem_rows _ _ _).mpr ?_⟩
    dsimp only [first, height, coordsV, c, s]
    omega

/-! ### The arrays, chunk by chunk -/

theorem xP_rows (d : Dev nD) (i : grid0.Coords) (m : (ℓ : Loc nD τ sig) → Buf (Elt F) ℓ) (ch : Chunk) :
    (xP d i (xAt m d i) ch : sProp 𝕄) = xLoc d ↦[rows i ch]{fullShare} m (xLoc d) := by
  cases ch with
  | inl k =>
    show (xLoc d ↦[(xv i (.inl k)).view.set]{fullShare} m (xLoc d) : sProp 𝕄) = _
    rw [show (xv i (.inl k)).view.set = (rectT i k).set from View.set_slice_whole _ _]; rfl
  | inr k =>
    show (xLoc d ↦[(xv i (.inr k)).view.set]{fullShare} m (xLoc d) : sProp 𝕄) = _
    rw [show (xv i (.inr k)).view.set = (rectS i k).set from View.set_slice_whole _ _]; rfl

/-- A whole array as a chunk's rows of the copy are addressed. -/
abbrev oAt (d : Dev nD) (i : grid0.Coords) (f : Buf (Elt F) (oLoc d)) : (ch : Chunk) → Buf (Elt F) ((ov i ch).view.loc (tile d i))
  | .inl _ => f
  | .inr _ => f

theorem oP_rows (d : Dev nD) (i : grid0.Coords) (f : Buf (Elt F) (oLoc d)) (ch : Chunk) :
    (oP d i ch (oAt d i f ch) : sProp 𝕄) = oLoc d ↦[rows i ch]{fullShare} f := by
  cases ch with
  | inl k =>
    show (oLoc d ↦[(ov i (.inl k)).view.set]{fullShare} f : sProp 𝕄) = _
    rw [show (ov i (.inl k)).view.set = (rectT i k).set from View.set_slice_whole _ _]; rfl
  | inr k =>
    show (oLoc d ↦[(ov i (.inr k)).view.set]{fullShare} f : sProp 𝕄) = _
    rw [show (ov i (.inr k)).view.set = (rectS i k).set from View.set_slice_whole _ _]; rfl

/-- One conjunct for each chunk of each subcore of each SparseCore. -/
abbrev everywhere (Φ : grid0.Coords → Chunk → sProp 𝕄) : sProp 𝕄 :=
  bigSep Finset.univ fun c : Fin (grid0.bound 0) => bigSep Finset.univ fun s : Fin (grid0.bound 1) => bigSep Finset.univ fun ch : Chunk => Φ (coordsV c s) ch

theorem x_split (d : Dev nD) (m : (ℓ : Loc nD τ sig) → Buf (Elt F) ℓ) :
    (xLoc d ↦{fullShare} m (xLoc d) : sProp 𝕄) = everywhere fun i ch => xP d i (xAt m d i) ch := by
  unfold everywhere
  simp only [xP_rows]
  rw [← bigSep_univ_prod (fun p : Fin (grid0.bound 0) × Fin (grid0.bound 1) => bigSep Finset.univ fun ch : Chunk => xLoc d ↦[rows (coordsV p.1 p.2) ch]{fullShare} m (xLoc d)),
    ← bigSep_univ_prod (fun p : Piece => (xLoc d ↦[rowsP p]{fullShare} m (xLoc d) : sProp 𝕄)),
    ← pointsTo_biUnion Finset.univ (ℓ := xLoc d) rowsP rows_disjoint, rows_cover]; try rfl

theorem o_split (d : Dev nD) (f : Buf (Elt F) (oLoc d)) :
    (oLoc d ↦{fullShare} f : sProp 𝕄) = everywhere fun i ch => oP d i ch (oAt d i f ch) := by
  unfold everywhere
  simp only [oP_rows]
  rw [← bigSep_univ_prod (fun p : Fin (grid0.bound 0) × Fin (grid0.bound 1) => bigSep Finset.univ fun ch : Chunk => oLoc d ↦[rows (coordsV p.1 p.2) ch]{fullShare} f),
    ← bigSep_univ_prod (fun p : Piece => (oLoc d ↦[rowsP p]{fullShare} f : sProp 𝕄)),
    ← pointsTo_biUnion Finset.univ (ℓ := oLoc d) rowsP rows_disjoint, rows_cover]; try rfl

theorem everywhere_sep (Φ Ψ : grid0.Coords → Chunk → sProp 𝕄) :
    everywhere (fun i ch => iprop(Φ i ch ∗ Ψ i ch)) = iprop(everywhere Φ ∗ everywhere Ψ) := by
  unfold everywhere
  simp only [bigSep_sep']

/-- The arrays are every chunk untouched. -/
theorem todo_all (m : (ℓ : Loc nD τ sig) → Buf (Elt F) ℓ) (d : Dev nD) (f : Buf (Elt F) (oLoc d)) :
    (iprop((xLoc d ↦{fullShare} m (xLoc d)) ∗ oLoc d ↦{fullShare} f) : sProp 𝕄) ⊢ everywhere fun i ch => piece m d i ch .todo := by
  rw [x_split, o_split, ← everywhere_sep]
  refine bigSep_mono fun c _ => bigSep_mono fun s _ => bigSep_mono fun ch _ => ?_
  show iprop(_ ∗ _) ⊢ (iprop(_ ∗ ∃ f, oP d (coordsV c s) ch f) : sProp 𝕄)
  exact sep_mono_right (BI.BIClass.exists_intro (Φ := fun f => oP (F := F) d (coordsV c s) ch f) _)

/-- Every chunk copied is the arrays, the copy at `x`. -/
theorem copied_all (m : (ℓ : Loc nD τ sig) → Buf (Elt F) ℓ) (d : Dev nD) :
    (everywhere fun i ch => piece m d i ch .copied : sProp 𝕄) = iprop((xLoc d ↦{fullShare} m (xLoc d)) ∗ oLoc d ↦{fullShare} copyOf m d) := by
  rw [x_split, o_split, ← everywhere_sep]
  refine bigSep_congr fun c _ => bigSep_congr fun s _ => bigSep_congr fun ch _ => ?_
  cases ch <;> rfl

/-! ### The shared memory of one SparseCore -/

abbrev shRef (c : Fin τ.nSC) : DevRef τ sig := ⟨.shared, ⟨0, by decide⟩, c⟩
abbrev shLoc (d : Dev nD) (c : Fin τ.nSC) : Loc nD τ sig := (d, shRef c)

/-- A subcore's buffer. -/
def shSet (p : Fin (grid0.bound 1) × Fin 2) : Finset S16x2x4x4096.Idx :=
  Finset.univ.filter fun j => (j 0).val = p.1.val ∧ (j 1).val = p.2.val

theorem sh_disjoint : ∀ p ∈ (Finset.univ : Finset (Fin (grid0.bound 1) × Fin 2)), ∀ q ∈ (Finset.univ : Finset (Fin (grid0.bound 1) × Fin 2)), p ≠ q → Disjoint (shSet p) (shSet q) := by
  intro p _ q _ hne
  refine Finset.disjoint_left.mpr fun j hj hj' => hne ?_
  have h := (Finset.mem_filter.mp hj).2
  have h' := (Finset.mem_filter.mp hj').2
  exact Prod.ext (Fin.ext (h.1.symm.trans h'.1)) (Fin.ext (h.2.symm.trans h'.2))

theorem sh_cover : (Finset.univ : Finset (Fin (grid0.bound 1) × Fin 2)).biUnion shSet = Finset.univ :=
  Finset.eq_univ_iff_forall.mpr fun j => Finset.mem_biUnion.mpr
    ⟨(⟨(j 0).val, (j 0).isLt⟩, ⟨(j 1).val, (j 1).isLt⟩), Finset.mem_univ _, Finset.mem_filter.mpr ⟨Finset.mem_univ _, rfl, rfl⟩⟩

theorem sh_rect (i : grid0.Coords) (b : Fin 2) (off : Fin S16x2x4x4096.rank → ℕ) (inb) (h : off = ![(i 1).val, b.val, 0, 0]) :
    (Rect.unit (s := S16x2x4x4096) off S1x1x4x4096.size inb).set = shSet (i 1, b) := by
  subst h
  ext j
  have h2 : (j 2).val < 4 := (j 2).isLt
  have h3 : (j 3).val < 4096 := (j 3).isLt
  unfold shSet
  rw [Rect.mem_set_unit, Finset.mem_filter]
  refine ⟨fun h => ⟨Finset.mem_univ _, ?_, ?_⟩, fun h a => ?_⟩
  · have h0 : (i 1).val ≤ (j 0).val ∧ (j 0).val < (i 1).val + 1 := h 0
    show (j 0).val = (i 1).val
    omega
  · have h1 : b.val ≤ (j 1).val ∧ (j 1).val < b.val + 1 := h 1
    show (j 1).val = b.val
    omega
  · have h0 : (j 0).val = (i 1).val := h.2.1
    have h1 : (j 1).val = b.val := h.2.2
    match a with
    | 0 => show (i 1).val ≤ (j 0).val ∧ (j 0).val < (i 1).val + 1; omega
    | 1 => show b.val ≤ (j 1).val ∧ (j 1).val < b.val + 1; omega
    | 2 => show 0 ≤ (j 2).val ∧ (j 2).val < 0 + 4; omega
    | 3 => show 0 ≤ (j 3).val ∧ (j 3).val < 0 + 4096; omega

theorem sbuf_set0 (i : grid0.Coords) : (sbuf i 0).view.set = shSet (i 1, 0) := by
  show (((View.whole (cc0_scratch3 : Ref sig .scVector)).slice (Rect.unit (s := S16x2x4x4096) (k0_off2 i) S1x1x4x4096.size (k0_off2_inb i))).reshape S4x4096 _).set = _
  rw [View.set_reshape]
  exact (View.set_slice_whole _ _).trans (sh_rect i 0 _ _ (k0_off2_eq i))

theorem sbuf_set1 (i : grid0.Coords) : (sbuf i 1).view.set = shSet (i 1, 1) := by
  show (((View.whole (cc0_scratch3 : Ref sig .scVector)).slice (Rect.unit (s := S16x2x4x4096) (k0_off4 i) S1x1x4x4096.size (k0_off4_inb i))).reshape S4x4096 _).set = _
  rw [View.set_reshape]
  exact (View.set_slice_whole _ _).trans (sh_rect i 1 _ _ (k0_off4_eq i))

/-- A SparseCore's shared memory, at contents not stated. -/
abbrev shAny (d : Dev nD) (c : Fin τ.nSC) : sProp 𝕄 := iprop(∃ f, shLoc d c ↦{fullShare} f)

theorem sh_split [FloatOps F] (d : Dev nD) (c : Fin τ.nSC) :
    (shAny d c : sProp 𝕄) = bigSep Finset.univ fun p : Fin (grid0.bound 1) × Fin 2 => iprop(∃ f, shLoc d c ↦[shSet p]{fullShare} f) := by
  refine equiv_iff.mp ⟨?_, ?_⟩
  · show shAny (F := F) d c ⊢ (bigSep Finset.univ fun p : Fin (grid0.bound 1) × Fin 2 => iprop(∃ f, shLoc d c ↦[shSet p]{fullShare} f) : sProp 𝕄)
    iintro ⟨%f, H⟩
    ihave H' := ((Entails.of_eq (show (shLoc d c ↦{fullShare} f : sProp 𝕄) = bigSep Finset.univ fun p => shLoc d c ↦[shSet p]{fullShare} f by
        rw [← pointsTo_biUnion Finset.univ (ℓ := shLoc d c) shSet sh_disjoint, sh_cover]; try rfl)).trans
      (SparseCore.ent (bigSep_mono fun p _ => BI.BIClass.exists_intro (Φ := fun f => (shLoc d c ↦[shSet p]{fullShare} f : sProp 𝕄)) f))) $$ H
    iexact H'
  · show (bigSep Finset.univ fun p : Fin (grid0.bound 1) × Fin 2 => iprop(∃ f, shLoc d c ↦[shSet p]{fullShare} f) : sProp 𝕄) ⊢ shAny (F := F) d c
    refine (bigSep_exists_pi Finset.univ (fun p (f : Buf (Elt F) (shLoc d c)) => (shLoc d c ↦[shSet p]{fullShare} f : sProp 𝕄))).trans ?_
    iintro ⟨%fs, H⟩
    ihave H' := (pointsTo_biUnion_join Finset.univ shSet fs (fs (⟨0, by decide⟩, 0)) sh_disjoint) $$ H
    icases H' with ⟨%g, -, Hg⟩
    rw [sh_cover]
    iexists g; iexact Hg

theorem sh_deal [FloatOps F] (d : Dev nD) (c : Fin (grid0.bound 0)) :
    (shAny d (c.castLE hcore0) : sProp 𝕄)
      = iprop((bigSep Finset.univ fun s : Fin (grid0.bound 1) => iprop(∃ f, shP d (coordsV c s) 0 f))
          ∗ bigSep Finset.univ fun s : Fin (grid0.bound 1) => iprop(∃ f, shP d (coordsV c s) 1 f)) := by
  rw [sh_split, bigSep_univ_prod, ← bigSep_sep']
  refine bigSep_congr fun s _ => ?_
  rw [BI.bigSep_fin_two]
  have h0 : (iprop(∃ f, shP d (coordsV c s) 0 f) : sProp 𝕄) = iprop(∃ f, shLoc d (c.castLE hcore0) ↦[shSet (s, 0)]{fullShare} f) := by
    unfold shP; rw [sbuf_set0]; rfl
  have h1 : (iprop(∃ f, shP d (coordsV c s) 1 f) : sProp 𝕄) = iprop(∃ f, shLoc d (c.castLE hcore0) ↦[shSet (s, 1)]{fullShare} f) := by
    unfold shP; rw [sbuf_set1]; rfl
  rw [h0, h1]; rfl

end Cert.Proof.Copy

end
-- ==== Proof.Launch.lean ====
/-
  The program's run: @main on the TensorCore starts the copy on every vector subcore and waits for it, then
  writes the result, the copy at the result's shape.
-/
module

public import proofs.«01_k».proof.Proof.Rows

@[expose] public section

noncomputable section

namespace Cert.Proof.Copy

open Cert.KernelIdeal Cert.KernelIdeal.Gen
open Idealize.ShloMosaic
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none

/-- The launch's semaphores and the SparseCores' buffers are as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH (MT nD τ sig (HIx 1) (Elt F) ℕ UU ℕ) := embL

variable (m : (ℓ : Loc nD τ sig) → Buf (Elt F) ℓ) (ρ : Dev nD → PrngReg)

abbrev rLoc (d : Dev nD) : Loc nD τ sig := (SparseCore.T d).loc main_v1

/-- The result: `x` at the result's shape. -/
abbrev outOf (d : Dev nD) : Buf (Elt F) (rLoc d) :=
  fun j => (shapeCast S4x4096x4096 (m (xLoc d) : FVec F S16384x4096 .f32) shapeCasts_S16384x4096_S4x4096x4096 : FVec F S4x4096x4096 .f32) j

/-! ### What the call hands over and takes back -/

/-- A SparseCore's chunks, all at one phase. -/
def coreShare (d : Dev nD) (c : Fin (grid0.bound 0)) (p : Phase) : sProp 𝕄 :=
  bigSep Finset.univ fun s : Fin (grid0.bound 1) => bigSep Finset.univ fun ch : Chunk => piece m d (coordsV c s) ch p

def P : (K (F := F)).Pay (nD := nD) (Val := Elt F) (Name := ℕ) (U := UU) where
  st := fun q d c => match q with | 0 => coreShare m d c .todo
  dn := fun q d c => match q with | 0 => coreShare m d c .copied
  go := fun q d c s => match q with | 0 => share m d (coordsV c s) .todo
  td := fun q d c s => match q with | 0 => share m d (coordsV c s) .copied
  x := fun _ _ => iprop(emp)

section Storable

variable (d : Dev nD) (i : grid0.Coords)

instance todo_storable (ch : Chunk) : BI.Storable (upEmb : UEmb _ 𝕄) (piece m d i ch .todo) :=
  (inferInstance : BI.Storable (upEmb : UEmb _ 𝕄) iprop(xP d i (xAt m d i) ch ∗ ∃ f, oP d i ch f))
instance copied_storable (ch : Chunk) : BI.Storable (upEmb : UEmb _ 𝕄) (piece m d i ch .copied) :=
  (inferInstance : BI.Storable (upEmb : UEmb _ 𝕄) iprop(xP d i (xAt m d i) ch ∗ oP d i ch (gAt m d i ch)))

theorem shP_storable (b : Fin 2) : BI.Storable (upEmb : UEmb _ 𝕄) (iprop(∃ f, shP d i b f)) := inferInstance

instance share_storable (p : Phase) [h : ∀ ch, BI.Storable (upEmb : UEmb _ 𝕄) (piece m d i ch p)] : BI.Storable (upEmb : UEmb _ 𝕄) (share m d i p) := by
  unfold share
  have h0 := shP_storable (F := F) d i 0
  have h1 := shP_storable (F := F) d i 1
  revert h0 h1
  generalize (iprop(∃ f, shP d i 0 f) : sProp 𝕄) = A
  generalize (iprop(∃ f, shP d i 1 f) : sProp 𝕄) = B
  intro h0 h1
  infer_instance

instance coreShare_storable (c : Fin (grid0.bound 0)) (p : Phase) [h : ∀ i ch, BI.Storable (upEmb : UEmb _ 𝕄) (piece m d i ch p)] :
    BI.Storable (upEmb : UEmb _ 𝕄) (coreShare m d c p) := by
  unfold coreShare; infer_instance

end Storable

instance P_storable : (P (F := F) m).IsStorable where
  st q d c := match q with | 0 => coreShare_storable m d c .todo
  dn q d c := match q with | 0 => coreShare_storable m d c .copied
  go q d c s := match q with | 0 => (inferInstance : BI.Storable (upEmb : UEmb _ 𝕄) (share m d (coordsV c s) .todo))
  td q d c s := match q with | 0 => (inferInstance : BI.Storable (upEmb : UEmb _ 𝕄) (share m d (coordsV c s) .copied))

/-! ### The tasks of one SparseCore -/

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
theorem drop_second {A B C D E G : sProp 𝕄} : iprop(A ∗ B ∗ C ∗ D ∗ E ∗ G) ⊢ iprop(A ∗ C ∗ D ∗ E ∗ G) :=
  sep_mono_right sep_elim_right

set_option maxRecDepth 1000000 in
theorem tileObl (hF : (K (F := F)).Facts) : (K (F := F)).TileObl D 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (SparseCore.V d ((K (F := F)).core 0 c) ((K (F := F)).sub 0 i)) = 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  have h := tile_body m d (coordsV ⟨((K (F := F)).core 0 c).val, hci.1⟩ ⟨((K (F := F)).sub 0 i).val, hci.2⟩) hF O W hO
  have hgo : (P m).go 0 d c i = share m d (coordsV ⟨((K (F := F)).core 0 c).val, hci.1⟩ ⟨((K (F := F)).sub 0 i).val, hci.2⟩) .todo := rfl
  have htd : (P m).td 0 d c i = share m d (coordsV ⟨((K (F := F)).core 0 c).val, hci.1⟩ ⟨((K (F := F)).sub 0 i).val, hci.2⟩) .copied := rfl
  rw [hgo, htd]
  exact BI.Entails.trans drop_second h

theorem ownBufs_S (d : Dev nD) (c : Fin τ.nSC) :
    (ownBufs (SparseCore.S d c) : sProp 𝕄)
      = iprop(shAny d c ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- A SparseCore's subcores' shares, all at one phase, are its chunks and its shared memory. -/
theorem shares_eq (d : Dev nD) (c : Fin (grid0.bound 0)) (p : Phase) :
    (bigSep Finset.univ fun s : Fin (grid0.bound 1) => share m d (coordsV c s) p)
      = (iprop(coreShare m d c p ∗ shAny d (c.castLE hcore0)) : sProp 𝕄) := by
  unfold share coreShare
  rw [bigSep_sep', bigSep_sep', ← sh_deal]

theorem core_split (d : Dev nD) (c : Fin (grid0.bound 0)) :
    iprop(coreShare m d c .todo ∗ ownBufs (SparseCore.S d (Fin.castLE hcore0 c))) ⊢ |={Set.univ}=> iprop(
      (bigSep Finset.univ fun s : Fin (grid0.bound 1) => share m d (coordsV c s) .todo)
      ∗ ((bigSep Finset.univ fun s : Fin (grid0.bound 1) => share m d (coordsV c s) .copied)
          -∗ iprop(coreShare m d c .copied ∗ ownBufs (SparseCore.S d (Fin.castLE hcore0 c))))) := by
  rw [shares_eq, shares_eq, ownBufs_S]
  iintro ⟨Hc, Hsh, Hrest⟩; imodintro
  isplitl [Hc Hsh]
  · isplitl [Hc]; · iexact Hc
    iexact Hsh
  iintro ⟨Hc, Hsh⟩
  isplitl [Hc]; · iexact Hc
  isplitl [Hsh]; · iexact Hsh
  iexact Hrest

theorem vecSplit : (K (F := F)).VecSplit (P m) 0 := fun d c => core_split m d c

/-! ### The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ### @main -/

abbrev x' : DevRef τ sig := Proc.devRef .tc (main_arg0 : Ref sig .tc)
abbrev o' : DevRef τ sig := Proc.devRef .tc (main_v0 : Ref sig .tc)
abbrev r' : DevRef τ sig := Proc.devRef .tc (main_v1 : Ref sig .tc)

/-- @main's reshape of the copy into the result. -/
abbrev opOut : HloOp τ sig (Elt F) := StableHlo.reshape main_v0 main_v1 (rfl : (.f32 : EltTy) = .f32) shapeCasts_S16384x4096_S4x4096x4096

abbrev S₃ : Finset (DevRef τ sig) := {x', o', r'}

omit [FloatOps F] in
theorem held_S₃ (d : Dev nD) (W : Valuation τ sig (Elt F)) :
    (StableHlo.held (SparseCore.T d) S₃ W : sProp 𝕄) = iprop((xLoc d ↦{fullShare} W x') ∗ (oLoc d ↦{fullShare} W o') ∗ rLoc d ↦{fullShare} W r') := by
  unfold StableHlo.held S₃
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays after the call: the copy at `x`, the others at their launch contents. -/
def afterCall (d : Dev nD) : Valuation τ sig (Elt F) := Function.update (fun b => m (d, b)) o' (copyOf m d)

omit [FloatOps F] in
theorem afterCall_x (d : Dev nD) : afterCall m d x' = m (xLoc d) := Function.update_of_ne (show x' ≠ o' by decide) _ _
omit [FloatOps F] in
theorem afterCall_o (d : Dev nD) : afterCall m d o' = copyOf m d := Function.update_self _ _ _
omit [FloatOps F] in
theorem afterCall_r (d : Dev nD) : afterCall m d r' = m (rLoc d) := Function.update_of_ne (show r' ≠ o' by decide) _ _

omit [FloatOps F] in
theorem held_out (d : Dev nD) :
    (StableHlo.held (SparseCore.T d) S₃ ((opOut (F := F)).result (afterCall m d)) : sProp 𝕄)
      = iprop((xLoc d ↦{fullShare} m (xLoc d)) ∗ (oLoc d ↦{fullShare} (opOut (F := F)).result (afterCall m d) o') ∗ rLoc d ↦{fullShare} outOf m d) := by
  rw [held_S₃, (opOut (F := F)).result_of_not_mem (afterCall m d) (b := x') (show x' ∉ ({r'} : Finset (DevRef τ sig)) by decide), afterCall_x,
    show (opOut (F := F)).result (afterCall m d) r' = outOf m d from (StableHlo.reshape_result _ _ _ _ _ _ _).trans (by rw [afterCall_o]; rfl)]

theorem hOut : (opOut (F := F)).bufs ⊆ S₃ := show ({o', r'} : Finset (DevRef τ sig)) ⊆ S₃ by decide

theorem st_all (d : Dev nD) :
    (iprop((xLoc d ↦{fullShare} m (xLoc d)) ∗ oLoc d ↦{fullShare} m (oLoc d)) : sProp 𝕄)
      ⊢ bigSep Finset.univ fun c : Fin ((K (F := F)).nCore 0) => (P m).st 0 d c := by
  refine (todo_all m d (m (oLoc d))).trans (Entails.of_eq ?_)
  show _ = bigSep Finset.univ fun c : Fin (grid0.bound 0) => coreShare m d c .todo
  unfold coreShare; rfl
theorem dn_all (d : Dev nD) :
    (bigSep Finset.univ fun c : Fin ((K (F := F)).nCore 0) => (P m).dn 0 d c)
      = (iprop((xLoc d ↦{fullShare} m (xLoc d)) ∗ oLoc d ↦{fullShare} copyOf m d) : sProp 𝕄) := by
  rw [← copied_all]
  show (bigSep Finset.univ fun c : Fin (grid0.bound 0) => coreShare m d c .copied) = _
  unfold coreShare; rfl

abbrev FIN (d : Dev nD) : sProp 𝕄 := iprop((xLoc d ↦{fullShare} m (xLoc d)) ∗ rLoc d ↦{fullShare} outOf m d)

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hr⟩, Hts, -⟩, -⟩
  iapply ((K (F := F)).wp_run D 𝒱 (EH := EH) (P := P m) κ d 0) $$ [Hst Hx Ho Hr Hb Hts]
  isplitr; · iexact Hctx
  isplitl [Hst]; · iexact Hst
  isplitl [Hx Ho]
  · iapply (st_all m d)
    isplitl [Hx] <;> iassumption
  iintro ⟨Hst, Hdn⟩
  ihave Hdn' := (Entails.of_eq (dn_all m d)) $$ Hdn
  icases Hdn' with ⟨Hx, Ho⟩
  iapply (wp_hlo_within 𝒱 (SparseCore.T d) none Set.univ (op := opOut) (S := S₃) hOut (V := afterCall m d)) $$ [Hb Hx Ho Hr]
  · isplitl [Hb]; · iexact Hb
    rw [held_S₃, afterCall_x, afterCall_o, afterCall_r]
    isplitl [Hx]; · iexact Hx
    isplitl [Ho]; · iexact Ho
    iexact Hr
  iintro ⟨Hb, Hheld⟩
  ihave Hh := (Entails.of_eq (held_out m d)) $$ Hheld
  icases Hh with ⟨Hx, -, Hr⟩
  rw [wp_ret]; imodintro; imodintro
  isplitl [Hst]; · iexact Hst
  isplitr [Hb Hts]
  · isplitl [Hx]; · iexact Hx
    iexact Hr
  isplitl [Hb] <;> iassumption

/-- What is read of device `d`'s final state. -/
def fq (d : Dev nD) (s' : Phys nD τ sig (Elt F)) : Prop := s'.mem.mem (rLoc d) = outOf m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := outOf m d)) $$ [HSI Hr]
  · isplitl [HSI] <;> iassumption
  icases H with %hr
  ipureintro; exact ⟨funext fun i => hr i (Finset.mem_univ i), funext fun i => hx i (Finset.mem_univ i)⟩

/-- How the program ends: the result at `x`'s elements, `x` unchanged, every semaphore back at zero. -/
def QC : PUnit × MemSt nD τ sig (Elt F) → Prop :=
  fun r => (∀ c : Dev nD, r.2.mem (rLoc c) = outOf m c ∧ r.2.mem (xLoc c) = m (xLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.lean ====
/-
  The kernel's certificate: the program runs over the machine's words and over exact numbers, leaving its argument as it
  was and every semaphore at zero, and its result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch

@[expose] public section

noncomputable section

namespace Cert.Proof

open Idealize.ShloMosaic Idealize.SL.Sem

/-- The program over the machine's words: its text is the one `Copy.run_main` is about. -/
theorem frame_kernel : Cert.quiescent_Kernel := fun m ρ _ =>
  (θ_run Cert.KernelIdeal.defs _ _).mono (fun _ h => ⟨fun c => (h.1 c).2, h.2⟩) (Copy.run_main (F := Bits) m ρ)

/-- The program over exact numbers. -/
theorem frame_kernelIdeal : Cert.quiescent_KernelIdeal := fun m ρ _ =>
  (θ_run Cert.KernelIdeal.defs _ _).mono (fun _ h => ⟨fun c => (h.1 c).2, h.2⟩) (Copy.run_main (F := Ideal) m ρ)

/-- The reference: one host operation, no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both end with the argument's elements at the result's shape. -/
theorem value : Cert.algebraic_KernelIdeal_ReferenceIdeal := by
  intro m ρ m' ρ' _ hagree
  refine ⟨fun c => Copy.outOf m c, ?_, ?_⟩
  · exact (θ_run Cert.KernelIdeal.defs _ _).mono (fun _ h c => h.1 c) (Copy.run_main (F := Ideal) m ρ)
  · refine (θ_run Cert.ReferenceIdeal.defs _ _).mono (fun _ h c => ⟨(h c).1.trans ?_, (h c).2⟩) (Cert.ReferenceIdeal.Value.run (F := Ideal) m' ρ')
    rw [hagree c]; rfl

theorem claim : Cert.Claim :=
  ⟨Cert.Kernel.Gen.facts, Cert.KernelIdeal.Gen.facts, Cert.ReferenceIdeal.Gen.facts,
    frame_kernel, frame_kernelIdeal, frame_reference, trivial, value⟩

end Cert.Proof

end
